-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centers_finite [hPre_centers_finite : Cert.Pre_centers_finite.Facts] (m : (ℓ : Loc Cert.KernelIdeal.nD Cert.KernelIdeal.τ Cert.KernelIdeal.sig) → Buf (Elt Ideal) ℓ) : Prop :=
  ∀ c : Dev Cert.KernelIdeal.nD,
    (Cert.Pre_centers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centers_finite [hPre_centers_finite : Cert.Pre_centers_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_centers_finite [hKernelIdeal : Cert.KernelIdeal.Facts] [hPre_centers_finite : Cert.Pre_centers_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centers_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_centers_finite [hReferenceIdeal : Cert.ReferenceIdeal.Facts] [hPre_centers_finite : Cert.Pre_centers_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centers_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_centers_finite [hKernelIdeal : Cert.KernelIdeal.Facts] [hReferenceIdeal : Cert.ReferenceIdeal.Facts] [hPre_centers_finite : Cert.Pre_centers_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centers_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_centers_finite : Cert.Pre_centers_finite.Facts),
    quiescent_Kernel (hKernel := hKernel)
    ∧ quiescent_KernelIdeal (hKernelIdeal := hKernelIdeal)
    ∧ quiescent_KernelIdeal_pre_centers_finite (hKernelIdeal := hKernelIdeal) (hPre_centers_finite := hPre_centers_finite)
    ∧ quiescent_ReferenceIdeal (hReferenceIdeal := hReferenceIdeal)
    ∧ quiescent_ReferenceIdeal_pre_centers_finite (hReferenceIdeal := hReferenceIdeal) (hPre_centers_finite := hPre_centers_finite)
    ∧ preserves_Kernel_KernelIdeal
    ∧ algebraic_KernelIdeal_ReferenceIdeal_pre_centers_finite (hKernelIdeal := hKernelIdeal) (hReferenceIdeal := hReferenceIdeal) (hPre_centers_finite := hPre_centers_finite)
-- ==== Pre_centers_finite.lean ====
abbrev S16384x256 : Shape := ⟨2, ![16384, 256]⟩
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S16384x256 .f32) (main_arg1 : FVec F S8192x256 .f32) : IVec S_ 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S32x1x512 : Shape := ⟨3, ![32, 1, 512]⟩
abbrev S512x256 : Shape := ⟨2, ![512, 256]⟩
abbrev S512x1 : Shape := ⟨2, ![512, 1]⟩
abbrev S1x1x512 : Shape := ⟨3, ![1, 1, 512]⟩
abbrev S512x8192 : Shape := ⟨2, ![512, 8192]⟩
abbrev S512x2048 : Shape := ⟨2, ![512, 2048]⟩
abbrev S512 : Shape := ⟨1, ![512]⟩

abbrev nBuf : Space → Nat
  | .hbm => 12
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S32x1x512, .i32⟩
  | .hbm, ⟨11, _⟩ => ⟨S16384, .i32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S1x1x512, .i32⟩
  | .local _ .vmem, ⟨7, _⟩ => ⟨S1x1x512, .i32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x8192 : Shape := ⟨2, ![256, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S256x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S16384x8192, .f32⟩
  | .hbm, ⟨24, _⟩ => ⟨S16384x8192, .i32⟩
  | .hbm, ⟨25, _⟩ => ⟨S_, .f32⟩
  | .hbm, ⟨26, _⟩ => ⟨S_, .i32⟩
  | .hbm, ⟨27, _⟩ => ⟨S16384, .f32⟩
  | .hbm, ⟨28, _⟩ => ⟨S16384, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_call1_cst : Ref sig .tc := ⟨.hbm, 25, rfl⟩
abbrev main_call1_c : Ref sig .tc := ⟨.hbm, 26, rfl⟩
abbrev main_call1_v1_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.ArgMin.lean ====
/-
  The mathematics of an arg-min, apart from any program.

  A pair is a value of the extended reals and an index word. One pair comes before another when its value is smaller,
  or the values agree and its index is not larger. The best pair of a set is the one that comes before all of them;
  there is at most one. Both a fold with jnp's arg-min body and a pass over consecutive chunks find it.
-/
module

public import Idealize.ShloMosaic.PureOps.Reduce
public import Idealize.ShloMosaic.PureOps.Ideal.Laws

@[expose] public section

namespace Cert.Nearest

open Idealize.ShloMosaic

/-- A value and an index word. -/
abbrev Pair : Type := EReal × BitVec 32

/-- `a` comes before `b`: a smaller value, or the same value and an index that is not larger. -/
def Before (a b : Pair) : Prop := a.1 < b.1 ∨ a.1 = b.1 ∧ a.2.toInt ≤ b.2.toInt

theorem Before.refl (a : Pair) : Before a a := .inr ⟨rfl, le_rfl⟩

theorem Before.trans {a b c : Pair} (h : Before a b) (k : Before b c) : Before a c := by
  rcases h with h | ⟨h, h'⟩
  · rcases k with k | ⟨k, -⟩
    · exact .inl (h.trans k)
    · exact .inl (k ▸ h)
  · rcases k with k | ⟨k, k'⟩
    · exact .inl (h ▸ k)
    · exact .inr ⟨h.trans k, h'.trans k'⟩

/-- Of two pairs one comes before the other. -/
theorem Before.of_not {a b : Pair} (h : ¬ Before a b) : Before b a := by
  simp only [Before, not_or, not_and, not_le, not_lt] at h
  rcases h.1.lt_or_eq with k | k
  · exact .inl k
  · exact .inr ⟨k, (h.2 k.symm).le⟩

/-- Two pairs each before the other are the same pair. -/
theorem Before.antisymm {a b : Pair} (h : Before a b) (k : Before b a) : a = b := by
  rcases h with h | ⟨h, h'⟩
  · rcases k with k | ⟨k, -⟩
    · exact absurd (h.trans k) (lt_irrefl _)
    · exact absurd h (k ▸ lt_irrefl _)
  · rcases k with k | ⟨-, k'⟩
    · exact absurd k (h ▸ lt_irrefl _)
    · exact Prod.ext h (BitVec.eq_of_toInt_eq (le_antisymm h' k'))

/-- `r` is the best pair of `S`: one of them, and before all of them. -/
def Best (S : Set Pair) (r : Pair) : Prop := r ∈ S ∧ ∀ p ∈ S, Before r p

/-- A set has at most one best pair. -/
theorem Best.unique {S : Set Pair} {r r' : Pair} (h : Best S r) (h' : Best S r') : r = r' :=
  (h.2 r' h'.1).antisymm (h'.2 r h.1)

/-! ## A fold -/

/-- A body that returns whichever of its two pairs comes before the other, folded over a list from an initial pair,
    leaves the best of the initial pair and the list's. -/
theorem best_foldl (f : Pair → Pair → Pair) (hl : ∀ a b, Before a b → f a b = a) (hr : ∀ a b, ¬ Before a b → f a b = b)
    (l : List Pair) (a : Pair) : Best {p | p = a ∨ p ∈ l} (l.foldl f a) := by
  induction l generalizing a with
  | nil => exact ⟨.inl rfl, fun p hp => by rcases hp with rfl | hp; exacts [.refl _, nomatch hp]⟩
  | cons b l ih =>
    obtain ⟨hm, hb⟩ := ih (f a b)
    have hf : Before (f a b) a ∧ Before (f a b) b ∧ (f a b = a ∨ f a b = b) := by
      by_cases h : Before a b
      · rw [hl a b h]; exact ⟨.refl a, h, .inl rfl⟩
      · rw [hr a b h]; exact ⟨.of_not h, .refl b, .inr rfl⟩
    refine ⟨?_, fun p hp => ?_⟩
    · rcases hm with hm | hm
      · rcases hf.2.2 with h | h
        · exact .inl (hm.trans h)
        · exact .inr (List.mem_cons.2 (.inl (hm.trans h)))
      · exact .inr (List.mem_cons_of_mem _ hm)
    · rcases hp with rfl | hp
      · exact (hb _ (.inl rfl)).trans hf.1
      · rcases List.mem_cons.1 hp with rfl | hp
        · exact (hb _ (.inl rfl)).trans hf.2.1
        · exact hb p (.inr hp)

/-! ## Two sets one after the other -/

/-- The better of the bests of two sets, the first one's kept at equal values, is the best of their union when no index
    of the first set is larger than one of the second. -/
theorem Best.union {A C : Set Pair} {s c : Pair} (hs : Best A s) (hc : Best C c)
    (h : ∀ a ∈ A, ∀ b ∈ C, a.2.toInt ≤ b.2.toInt) : Best (A ∪ C) (if c.1 < s.1 then c else s) := by
  by_cases hlt : c.1 < s.1
  · rw [if_pos hlt]
    exact ⟨.inr hc.1, fun p hp => hp.elim (fun hp => Before.trans (.inl hlt) (hs.2 p hp)) (hc.2 p)⟩
  · rw [if_neg hlt]
    refine ⟨.inl hs.1, fun p hp => hp.elim (hs.2 p) fun hp => Before.trans ?_ (hc.2 p hp)⟩
    rcases (not_lt.1 hlt).lt_or_eq with k | k
    · exact .inl k
    · exact .inr ⟨k, h s hs.1 c hc.1⟩

/-! ## Folds of minima over a chunk -/

/-- The signed minimum of two words has the smaller of the two signed values. -/
theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

/-- A fold of signed minima is a word `w` as soon as `w` is one of the folded words and none of them, nor the initial
    word, is smaller. -/
theorem fold_minsi_eq {ι : Type} (s : Finset ι) (f : ι → BitVec 32) (b w : BitVec 32) (hb : w.toInt ≤ b.toInt)
    (hle : ∀ k ∈ s, w.toInt ≤ (f k).toInt) (hw : ∃ k ∈ s, f k = w) : s.fold IntOp.minsi b f = w := by
  refine BitVec.eq_of_toInt_eq (le_antisymm ?_ ?_)
  · obtain ⟨k, hk, e⟩ := hw
    refine (Finset.fold_op_rel_iff_or (r := fun x y : BitVec 32 => y.toInt ≤ x.toInt) (c := w) fun {x y z} => ?_).2
      (.inr ⟨k, hk, e ▸ le_rfl⟩)
    rw [toInt_minsi, min_le_iff]
  · refine (Finset.fold_op_rel_iff_and (r := fun x y : BitVec 32 => x.toInt ≤ y.toInt) (c := w) fun {x y z} => ?_).2
      ⟨hb, hle⟩
    rw [toInt_minsi, le_min_iff]

/-- The signed value of a small number's word is the number. -/
theorem toInt_ofNat {n : ℕ} (h : n < 2 ^ 31) : (BitVec.ofNat 32 n).toInt = n := by
  rw [BitVec.toInt_ofNat']
  exact Int.bmod_eq_of_le (by omega) (by omega)

/-- The minimum of `n` values, folded from `⊤`. -/
noncomputable def low {n : ℕ} (d : Fin n → EReal) : EReal := Finset.univ.fold min ⊤ d

/-- The first place of `n` at which the minimum stands, as a fold of signed minima over the places where it stands and
    `n` where it does not. -/
noncomputable def place {n : ℕ} (d : Fin n → EReal) : BitVec 32 :=
  Finset.univ.fold IntOp.minsi 2147483647#32 fun k => if d k = low d then BitVec.ofNat 32 k else BitVec.ofNat 32 n

/-- The minimum of a chunk stands at the place found, is at most every value, and is smaller than the values before. -/
theorem place_spec {n : ℕ} (hn : 0 < n) (hn' : n < 2 ^ 31) (d : Fin n → EReal) :
    ∃ k : Fin n, place d = BitVec.ofNat 32 k ∧ low d = d k ∧ (∀ j, d k ≤ d j) ∧ ∀ j, j < k → d k < d j := by
  classical
  haveI : Nonempty (Fin n) := ⟨⟨0, hn⟩⟩
  have hle : ∀ j, low d ≤ d j := fun j => Finset.inf_le (f := d) (Finset.mem_univ j)
  obtain ⟨k₁, -, hk₁⟩ := Finset.exists_mem_eq_inf (Finset.univ : Finset (Fin n)) Finset.univ_nonempty d
  have hex : (Finset.univ.filter fun k => d k = low d).Nonempty := ⟨k₁, Finset.mem_filter.2 ⟨Finset.mem_univ _, hk₁.symm⟩⟩
  set k := (Finset.univ.filter fun k => d k = low d).min' hex with hk
  have hkd : d k = low d := by simpa using (Finset.mem_filter.1 (Finset.min'_mem _ hex)).2
  have hmin : ∀ j, d j = low d → k ≤ j := fun j hj => Finset.min'_le _ _ (by simpa using hj)
  refine ⟨k, ?_, hkd.symm, fun j => hkd ▸ hle j, fun j hj => ?_⟩
  · refine fold_minsi_eq _ _ _ _ ?_ (fun j _ => ?_) ⟨k, Finset.mem_univ k, if_pos hkd⟩
    · rw [toInt_ofNat (k.isLt.trans hn')]
      have : (2147483647#32).toInt = 2147483647 := by decide
      have := k.isLt
      omega
    · rw [toInt_ofNat (k.isLt.trans hn')]
      split
      · next h =>
        rw [toInt_ofNat (j.isLt.trans hn')]
        exact_mod_cast hmin j h
      · rw [toInt_ofNat hn']
        exact_mod_cast k.isLt.le
  · refine lt_of_le_of_ne (hkd ▸ hle j) fun e => ?_
    exact absurd (hmin j (e ▸ hkd)) (not_le.2 hj)

/-! ## A pass over consecutive chunks -/

/-- The pairs of `g` at the indices from `a` up to `b`. -/
def pairs {N : ℕ} (g : Fin N → EReal) (a b : ℕ) : Set Pair :=
  {p | ∃ k : Fin N, a ≤ k.val ∧ k.val < b ∧ p = (g k, BitVec.ofNat 32 k.val)}

/-- The initial pair with the pairs of `g` below `n`. -/
def seen {N : ℕ} (g : Fin N → EReal) (n : ℕ) : Set Pair := {p | p = (⊤, 0#32)} ∪ pairs g 0 n

/-- Before the first chunk the initial pair is the best. -/
theorem best_seen_zero {N : ℕ} (g : Fin N → EReal) : Best (seen g 0) (⊤, 0#32) :=
  ⟨.inl rfl, fun p hp => by
    rcases hp with hp | ⟨k, -, h, -⟩
    · exact hp ▸ .refl _
    · omega⟩

/-- One chunk: from the best of what was seen before, the pair of the chunk's minimum of `d`, at its value under `φ`,
    taken when it is strictly smaller, is the best of what is seen after, wherever `φ` keeps strict order among the
    values of `d`. -/
theorem best_step {N : ℕ} (hN : N < 2 ^ 31) (d : Fin N → EReal) (φ : EReal → EReal)
    (hφ : ∀ i j, d i < d j → φ (d i) < φ (d j)) (o n : ℕ) (hn : 0 < n) (ho : o + n ≤ N) (s : Pair)
    (hs : Best (seen (fun k => φ (d k)) o) s) (e : Fin n → EReal) (he : ∀ k : Fin n, e k = d ⟨o + k.val, by omega⟩) :
    Best (seen (fun k => φ (d k)) (o + n))
      (if φ (low e) < s.1 then (φ (low e), IntOp.addi (place e) (BitVec.ofNat 32 o)) else s) := by
  obtain ⟨k, hk, hl, hle, hlt⟩ := place_spec hn (by omega) e
  have hw : IntOp.addi (place e) (BitVec.ofNat 32 o) = BitVec.ofNat 32 (o + k.val) := by
    rw [hk]; unfold IntOp.addi; rw [← BitVec.ofNat_add, Nat.add_comm]
  have hc : Best (pairs (fun k => φ (d k)) o (o + n)) (φ (low e), IntOp.addi (place e) (BitVec.ofNat 32 o)) := by
    refine ⟨⟨⟨o + k.val, by omega⟩, by simp, by simp, ?_⟩, ?_⟩
    · rw [hw, hl, he]
    · rintro p ⟨j, hj, hj', rfl⟩
      obtain ⟨i, hi⟩ : ∃ i : Fin n, j = ⟨o + i.val, by have := i.isLt; omega⟩ :=
        ⟨⟨j.val - o, by omega⟩, Fin.ext (by simp only; omega)⟩
      rw [hw, hl, he, hi]
      rcases (hle i).lt_or_eq with h | h
      · rw [he, he] at h
        exact .inl (hφ _ _ h)
      · have hki : k.val ≤ i.val := by
          by_contra hlt'
          exact absurd (hlt i (by simpa using hlt')) (by rw [h]; exact lt_irrefl _)
        rw [he, he] at h
        refine .inr ⟨by simp only [h], ?_⟩
        rw [toInt_ofNat (by omega), toInt_ofNat (by simp only; omega)]
        simp only; omega
  have hu : seen (fun k => φ (d k)) (o + n) = seen (fun k => φ (d k)) o ∪ pairs (fun k => φ (d k)) o (o + n) := by
    ext p
    constructor
    · rintro (hp | ⟨j, h0, hj, rfl⟩)
      · exact .inl (.inl hp)
      · by_cases h : j.val < o
        · exact .inl (.inr ⟨j, h0, h, rfl⟩)
        · exact .inr ⟨j, by omega, hj, rfl⟩
    · rintro ((hp | ⟨j, h0, hj, rfl⟩) | ⟨j, h0, hj, rfl⟩)
      · exact .inl hp
      · exact .inr ⟨j, h0, by omega, rfl⟩
      · exact .inr ⟨j, by omega, hj, rfl⟩
  rw [hu]
  refine hs.union hc ?_
  rintro a (rfl | ⟨i, -, hi, rfl⟩) b ⟨j, hj, hj', rfl⟩
  · have h0 : (0#32).toInt = 0 := by decide
    have h1 := toInt_ofNat (n := j.val) (by omega)
    rw [h0, h1]; omega
  · have h0 := toInt_ofNat (n := i.val) (by omega)
    have h1 := toInt_ofNat (n := j.val) (by omega)
    rw [h0, h1]; omega

end Cert.Nearest

end
-- ==== Proof.Distance.lean ====
/-
  The mathematics of the squared distance over the extended reals, apart from any program.

  `sq x c` is `(∑ x² + ∑ c²) − 2 ∑ x c`, and `root` is the square root of a value clipped at zero. Where the centre `c`
  is finite, `root` keeps strict order among the squared distances from one row `x`, whatever `x` is: a finite row has
  real squared distances that are sums of squares, and a row with an infinite entry has only `⊤` and `⊥`.
-/
module

public import Idealize.ShloMosaic.PureOps.Ideal

@[expose] public section

noncomputable section

namespace Cert.Nearest

open Idealize.ShloMosaic

/-- The word of positive infinity. -/
theorem ofBits_inf : Ideal.ofBits .f32 0x7F800000#32 = ⊤ := by
  simp [Ideal.ofBits, Ideal.ieee]

/-- The word of the number two. -/
theorem ofBits_two : Ideal.ofBits .f32 0x40000000#32 = 2 := by
  simp [Ideal.ofBits, Ideal.ieee]
  rw [← EReal.coe_mul, show (8388608 : ℝ) * (2 ^ 22)⁻¹ = 2 by norm_num]
  rfl

/-- The square root of a value clipped at zero. -/
def root (v : EReal) : EReal := Ideal.sqrt (max v 0)

/-- The squared distance of two vectors, expanded. -/
def sq {n : ℕ} (x c : Fin n → EReal) : EReal := (∑ k, x k * x k + ∑ k, c k * c k) - 2 * ∑ k, x k * c k

/-- The root of a real that is not negative. -/
theorem root_coe {r : ℝ} (h : 0 ≤ r) : root (r : EReal) = (Real.sqrt r : ℝ) := by
  unfold root
  rw [max_eq_left (by exact_mod_cast h)]
  exact if_neg (not_lt.2 h)

theorem root_bot : root ⊥ = 0 := by
  unfold root
  rw [max_eq_right bot_le]
  have h := root_coe (le_refl (0 : ℝ))
  unfold root at h
  rw [max_eq_left (by simp)] at h
  simpa using h

theorem root_top : root ⊤ = ⊤ := by
  unfold root
  rw [max_eq_left le_top]
  rfl

/-- A sum of reals, coerced. -/
theorem coe_sum {n : ℕ} (f : Fin n → ℝ) : ∑ k, (f k : EReal) = ((∑ k, f k : ℝ) : EReal) := by
  induction (Finset.univ : Finset (Fin n)) using Finset.cons_induction with
  | empty => simp
  | cons a s ha ih => rw [Finset.sum_cons, Finset.sum_cons, ih, EReal.coe_add]

/-- Between finite vectors the squared distance is the real sum of the squared differences. -/
theorem sq_coe {n : ℕ} (a b : Fin n → ℝ) : sq (fun k => (a k : EReal)) (fun k => (b k : EReal)) = ((∑ k, (a k - b k) ^ 2 : ℝ) : EReal) := by
  have h2 : (2 : EReal) = ((2 : ℝ) : EReal) := rfl
  unfold sq
  simp only [← EReal.coe_mul, coe_sum, h2, ← EReal.coe_add, ← EReal.coe_sub]
  congr 1
  rw [Finset.mul_sum, ← Finset.sum_add_distrib, ← Finset.sum_sub_distrib]
  exact Finset.sum_congr rfl fun k _ => by ring

/-- The square of an extended real is not negative. -/
theorem mul_self_nonneg' (v : EReal) : 0 ≤ v * v := by
  induction v with
  | bot => rw [EReal.bot_mul_bot]; exact le_top
  | top => rw [EReal.top_mul_top]; exact le_top
  | coe r => rw [← EReal.coe_mul]; exact_mod_cast mul_self_nonneg r

/-- The sum of the squares of a vector with an infinite entry is `⊤`. -/
theorem sum_mul_self_eq_top {n : ℕ} (x : Fin n → EReal) (k : Fin n) (hk : x k = ⊤ ∨ x k = ⊥) : ∑ k, x k * x k = ⊤ := by
  have h : x k * x k = ⊤ := by
    rcases hk with h | h <;> rw [h]
    · exact EReal.top_mul_top
    · exact EReal.bot_mul_bot
  exact top_le_iff.1 (h ▸ Finset.single_le_sum (fun k _ => mul_self_nonneg' (x k)) (Finset.mem_univ k))

/-- From a row with an infinite entry every squared distance is `⊤` or `⊥`. -/
theorem sq_of_infinite {n : ℕ} (x c : Fin n → EReal) (k : Fin n) (hk : x k = ⊤ ∨ x k = ⊥) : sq x c = ⊤ ∨ sq x c = ⊥ := by
  unfold sq
  rw [sum_mul_self_eq_top x k hk, EReal.top_add_of_ne_bot
    (ne_of_gt (lt_of_lt_of_le EReal.bot_lt_zero (Finset.sum_nonneg fun k _ => mul_self_nonneg' (c k))))]
  generalize (2 : EReal) * ∑ k, x k * c k = v
  induction v with
  | bot => exact .inl rfl
  | top => exact .inr rfl
  | coe r => exact .inl rfl

/-- The root keeps strict order among the squared distances of one row to finite vectors. -/
theorem root_lt_root {n : ℕ} (x c c' : Fin n → EReal) (hc : ∀ k, c k ≠ ⊤ ∧ c k ≠ ⊥) (hc' : ∀ k, c' k ≠ ⊤ ∧ c' k ≠ ⊥)
    (h : sq x c < sq x c') : root (sq x c) < root (sq x c') := by
  by_cases hx : ∃ k, x k = ⊤ ∨ x k = ⊥
  · obtain ⟨k, hk⟩ := hx
    rcases sq_of_infinite x c k hk with e | e
    · exact absurd h (by rw [e]; exact not_top_lt)
    · rcases sq_of_infinite x c' k hk with e' | e'
      · rw [e, e', root_bot, root_top]; exact EReal.zero_lt_top
      · exact absurd h (by rw [e']; exact not_lt_bot)
  · simp only [not_exists, not_or] at hx
    lift x to Fin n → ℝ using hx
    lift c to Fin n → ℝ using hc
    lift c' to Fin n → ℝ using hc'
    rw [sq_coe, sq_coe, EReal.coe_lt_coe_iff] at h
    rw [sq_coe, sq_coe, root_coe (Finset.sum_nonneg fun k _ => sq_nonneg _), root_coe (Finset.sum_nonneg fun k _ => sq_nonneg _),
      EReal.coe_lt_coe_iff]
    exact Real.sqrt_lt_sqrt (Finset.sum_nonneg fun k _ => sq_nonneg _) h

end Cert.Nearest

end
-- ==== Proof.Block.lean ====
/-
  What one block of the kernel computes: for each of its 512 rows the index of the nearest of the 8192 centres, found
  by a pass over four chunks of 2048.
-/
module

public import proofs.«01_k».proof.Proof.Gen.KernelIdeal.Frame
public import proofs.«01_k».proof.Proof.ArgMin
public import proofs.«01_k».proof.Proof.Distance
public import Idealize.ShloMosaic.Lib.Pointwise

@[expose] public section

set_option maxRecDepth 16384

noncomputable section

namespace Cert.Nearest

open Idealize.ShloMosaic Idealize.ShloMosaic.TcCoe Idealize.SL.Sem
open Cert.KernelIdeal Cert.KernelIdeal.Gen

/-- The values of row `i` of `D` in the chunk of 2048 that starts at `o`. -/
def chunk (D : FVec Ideal S512x8192 .f32) (i : Fin 512) (o : ℕ) (ho : o + 2048 ≤ 8192) (k : Fin 2048) : EReal :=
  D (ix2 i ⟨o + k.val, by have := k.isLt; omega⟩)

section Block

variable (x0 : Vec Ideal S512x256 .f32) (x1 : Vec Ideal S8192x256 .f32) (x2 : Vec Ideal S512x1 .f32)
  (x3 : Vec Ideal S1x8192 .f32) (D : FVec Ideal S512x8192 .f32) (i : Fin 512)

/-- The chunk at 0: its minimum. -/
theorem low_0 : k0_pay5 (F := Ideal) x0 x1 x2 x3 (ix2 i 0) = low (chunk (k0_pay2 (F := Ideal) x0 x1 x2 x3) i 0 (by omega)) := by
  unfold low chunk
  pointwise [k0_pay5, k0_pay4, ofBits_inf]

/-- The chunk at 2048: its minimum. -/
theorem low_1 : k0_pay11 (F := Ideal) x0 x1 x2 x3 (ix2 i 0) = low (chunk (k0_pay2 (F := Ideal) x0 x1 x2 x3) i 2048 (by omega)) := by
  unfold low chunk
  pointwise [k0_pay11, k0_pay10, ofBits_inf]

/-- The chunk at 4096: its minimum. -/
theorem low_2 : k0_pay17 (F := Ideal) D (ix2 i 0) = low (chunk D i 4096 (by omega)) := by
  unfold low chunk
  pointwise [k0_pay17, k0_pay16, ofBits_inf]

/-- The chunk at 6144: its minimum. -/
theorem low_3 : k0_pay23 (F := Ideal) D (ix2 i 0) = low (chunk D i 6144 (by omega)) := by
  unfold low chunk
  pointwise [k0_pay23, k0_pay22, ofBits_inf]

/-- The running value after the first chunk. -/
theorem acc_0 : k0_pay8 (F := Ideal) x0 x1 x2 x3 (ix2 i 0)
    = if root (low (chunk (k0_pay2 (F := Ideal) x0 x1 x2 x3) i 0 (by omega))) < ⊤ then
        root (low (chunk (k0_pay2 (F := Ideal) x0 x1 x2 x3) i 0 (by omega))) else ⊤ := by
  rw [← low_0]
  unfold root
  pointwise [k0_pay8, k0_pay7, k0_pay6, k0_pay3, ofBits_inf]

/-- The running index after the first chunk. -/
theorem idx_0 : k0_pay9 (F := Ideal) x0 x1 x2 x3 (ix2 i 0)
    = if root (low (chunk (k0_pay2 (F := Ideal) x0 x1 x2 x3) i 0 (by omega))) < ⊤ then
        IntOp.addi (place (chunk (k0_pay2 (F := Ideal) x0 x1 x2 x3) i 0 (by omega))) 0#32 else 0#32 := by
  unfold place
  rw [← low_0]
  unfold root chunk
  pointwise [k0_pay9, k0_pay7, k0_pay6, k0_pay4, k0_pay3, ofBits_inf]

/-- The running value after the second chunk, from the one before and the chunk's minimum. -/
theorem acc_1 (a b : FVec Ideal S512x1 .f32) : k0_pay15 (F := Ideal) a b (ix2 i 0)
    = if root (b (ix2 i 0)) < a (ix2 i 0) then root (b (ix2 i 0)) else a (ix2 i 0) := by
  unfold root
  pointwise [k0_pay15, k0_pay14, k0_pay13]

/-- The running value after the third chunk. -/
theorem acc_2 (a b : FVec Ideal S512x1 .f32) : k0_pay20 (F := Ideal) D a b (ix2 i 0)
    = if root (low (chunk D i 4096 (by omega))) < k0_pay15 (F := Ideal) a b (ix2 i 0) then
        root (low (chunk D i 4096 (by omega))) else k0_pay15 (F := Ideal) a b (ix2 i 0) := by
  rw [← low_2]
  unfold root
  pointwise [k0_pay20, k0_pay19, k0_pay18]

/-- The running index after the second and third chunks. -/
theorem idx_2 (a : FVec Ideal S512x1 .f32) (e : IVec S512x1 32) :
    k0_pay21 (F := Ideal) (k0_pay2 (F := Ideal) x0 x1 x2 x3) (iota .tc S512x2048 32 [1] iota_S512x2048_d1_w32) a e
      (k0_pay10 (F := Ideal) x0 x1 x2 x3) (k0_pay11 (F := Ideal) x0 x1 x2 x3) (k0_pay12 (F := Ideal) x0 x1 x2 x3) (ix2 i 0)
    = if root (low (chunk (k0_pay2 (F := Ideal) x0 x1 x2 x3) i 4096 (by omega)))
          < k0_pay15 (F := Ideal) a (k0_pay11 (F := Ideal) x0 x1 x2 x3) (ix2 i 0) then
        IntOp.addi (place (chunk (k0_pay2 (F := Ideal) x0 x1 x2 x3) i 4096 (by omega))) 4096#32
      else if root (low (chunk (k0_pay2 (F := Ideal) x0 x1 x2 x3) i 2048 (by omega))) < a (ix2 i 0) then
        IntOp.addi (place (chunk (k0_pay2 (F := Ideal) x0 x1 x2 x3) i 2048 (by omega))) 2048#32
      else e (ix2 i 0) := by
  unfold place
  rw [← low_1, ← low_2]
  unfold root chunk
  pointwise [k0_pay21, k0_pay19, k0_pay18, k0_pay16, k0_pay14, k0_pay13, k0_pay12, k0_pay10]

/-- The index of the fourth chunk's minimum. -/
theorem idx_3 : k0_pay24 (F := Ideal) D (iota .tc S512x2048 32 [1] iota_S512x2048_d1_w32) (ix2 i 0)
    = IntOp.addi (place (chunk D i 6144 (by omega))) 6144#32 := by
  unfold place
  rw [← low_3]
  unfold chunk
  pointwise [k0_pay24, k0_pay22]

/-- The block stored: the index after the last chunk. -/
theorem stored (a b : FVec Ideal S512x1 .f32) (e f : IVec S512x1 32) :
    k0_pay1 (F := Ideal) a e b f (k0_pay25 (F := Ideal)) (ix3 0 0 i)
      = if root (b (ix2 i 0)) < a (ix2 i 0) then f (ix2 i 0) else e (ix2 i 0) := by
  unfold root
  pointwise [k0_pay1, k0_pay25]

end Block

end Cert.Nearest

end
-- ==== Proof.BlockBest.lean ====
/-
  The block's four chunks put together: the stored index word belongs to the best pair of the row.
-/
module

public import proofs.«01_k».proof.Proof.Block

@[expose] public section

set_option maxRecDepth 16384

noncomputable section

namespace Cert.Nearest

open Idealize.ShloMosaic Idealize.ShloMosaic.TcCoe Idealize.SL.Sem
open Cert.KernelIdeal Cert.KernelIdeal.Gen

/-- What one block stores, from the blocks it reads whole. -/
theorem out_eq (x0 : Vec Ideal S512x256 .f32) (x1 : Vec Ideal S8192x256 .f32) (x2 : Vec Ideal S512x1 .f32)
    (x3 : Vec Ideal S1x8192 .f32) : out0_4 (F := Ideal) x0 x1 x2 x3
      = k0_pay1 (F := Ideal)
          (k0_pay20 (F := Ideal) (k0_pay2 (F := Ideal) x0 x1 x2 x3) (k0_pay8 (F := Ideal) x0 x1 x2 x3) (k0_pay11 (F := Ideal) x0 x1 x2 x3))
          (k0_pay21 (F := Ideal) (k0_pay2 (F := Ideal) x0 x1 x2 x3) (iota .tc S512x2048 32 [1] iota_S512x2048_d1_w32)
            (k0_pay8 (F := Ideal) x0 x1 x2 x3) (k0_pay9 (F := Ideal) x0 x1 x2 x3) (k0_pay10 (F := Ideal) x0 x1 x2 x3)
            (k0_pay11 (F := Ideal) x0 x1 x2 x3) (k0_pay12 (F := Ideal) x0 x1 x2 x3))
          (k0_pay23 (F := Ideal) (k0_pay2 (F := Ideal) x0 x1 x2 x3))
          (k0_pay24 (F := Ideal) (k0_pay2 (F := Ideal) x0 x1 x2 x3) (iota .tc S512x2048 32 [1] iota_S512x2048_d1_w32))
          (k0_pay25 (F := Ideal)) := by
  have h2 : (![0, 0] : Fin 2 → Nat) = fun _ => 0 := by decide
  have h3 : (![0, 0, 0] : Fin 3 → Nat) = fun _ => 0 := by decide
  have l0 : View.ld x0 r0_0 = x0 := View.ld_unit_zero h2 _ _
  have l1 : View.ld x1 r0_1 = x1 := View.ld_unit_zero h2 _ _
  have l2 : View.ld x2 r0_2 = x2 := View.ld_unit_zero h2 _ _
  have l3 : View.ld x3 r0_3 = x3 := View.ld_unit_zero h2 _ _
  unfold_out out0_4
  rw [View.canon_unit_zero h3, l0, l1, l2, l3]

/-- What one block stores at row `i` is the index of the best pair of that row's roots, where the root keeps strict
    order among the row's squared distances. -/
theorem block_best (x0 : Vec Ideal S512x256 .f32) (x1 : Vec Ideal S8192x256 .f32) (x2 : Vec Ideal S512x1 .f32)
    (x3 : Vec Ideal S1x8192 .f32) (i : Fin 512) (d : Fin 8192 → EReal)
    (hd : ∀ j, k0_pay2 (F := Ideal) x0 x1 x2 x3 (ix2 i j) = d j) (hφ : ∀ j j', d j < d j' → root (d j) < root (d j')) :
    ∃ v, Best (seen (fun k => root (d k)) 8192) (v, out0_4 (F := Ideal) x0 x1 x2 x3 (ix3 0 0 i)) := by
  set D := k0_pay2 (F := Ideal) x0 x1 x2 x3 with hD
  have he : ∀ o ho, ∀ k : Fin 2048, chunk D i o ho k = d ⟨o + k.val, by have := k.isLt; omega⟩ := fun o ho k => hd _
  have b0 := best_step (by norm_num) d root hφ 0 2048 (by norm_num) (by norm_num) _ (best_seen_zero _) _ (he 0 (by omega))
  have b1 := best_step (by norm_num) d root hφ 2048 2048 (by norm_num) (by norm_num) _ b0 _ (he 2048 (by omega))
  have b2 := best_step (by norm_num) d root hφ 4096 2048 (by norm_num) (by norm_num) _ b1 _ (he 4096 (by omega))
  have b3 := best_step (by norm_num) d root hφ 6144 2048 (by norm_num) (by norm_num) _ b2 _ (he 6144 (by omega))
  obtain ⟨s, hs, hb⟩ : ∃ s : Pair, s.2 = out0_4 (F := Ideal) x0 x1 x2 x3 (ix3 0 0 i)
      ∧ Best (seen (fun k => root (d k)) 8192) s := by
    refine ⟨_, ?_, b3⟩
    rw [out_eq, stored, idx_3, low_3, acc_2, idx_2, acc_1, low_1, acc_0, idx_0, ← hD]
    simp only [apply_ite Prod.fst, apply_ite Prod.snd]
  exact ⟨s.1, hs ▸ hb⟩

end Cert.Nearest

end
-- ==== Proof.Array.lean ====
/-
  What the kernel's result array holds: entry `n` is the index word of the best pair of the roots of the squared
  distances from feature row `n` to the centres.
-/
module

public import proofs.«01_k».proof.Proof.BlockBest
public import Idealize.ShloMosaic.Lib.Pipeline.ValueKit
public import Idealize.ShloMosaic.Lib.StableHlo.ReadAt
public import Idealize.ShloMosaic.Lib.Claim

@[expose] public section

set_option maxRecDepth 16384

noncomputable section

namespace Cert.Nearest

open Idealize.ShloMosaic Idealize.ShloMosaic.TcCoe Idealize.SL.Sem
open Idealize.ShloMosaic.Pipeline (Dat)
open Cert.KernelIdeal Cert.KernelIdeal.Gen

/-- The squared distance of feature row `n` to centre `j`. -/
def dist (X : FVec Ideal S16384x256 .f32) (C : FVec Ideal S8192x256 .f32) (n : Fin 16384) (j : Fin 8192) : EReal :=
  sq (fun k : Fin 256 => X (ix2 n k)) (fun k : Fin 256 => C (ix2 j k))

variable (m : (ℓ : Loc nD τ sig) → Buf (Elt Ideal) ℓ)

/-- The features at launch. -/
abbrev feats (c : Dev nD) : FVec Ideal S16384x256 .f32 := m ((c : Thread nD τ).loc main_arg0)

/-- The centres at launch. -/
abbrev cents (c : Dev nD) : FVec Ideal S8192x256 .f32 := m ((c : Thread nD τ).loc main_arg1)

/-- Which block each window has at each point. -/
theorem index_maps : ∀ t : Fin cfg0.N, win0_0.index t = ![t.val, 0] ∧ win0_1.index t = ![0, 0] ∧ win0_2.index t = ![t.val, 0]
    ∧ win0_3.index t = ![0, 0] ∧ win0_4.index t = ![t.val, 0, 0] ∧ t.val < 32 :=
  (by decide +kernel : ∀ t : Fin grid0.N, _)

/-- The array of the features' squared norms, at an index. -/
theorem norms_at (c : Dev nD) (n : Fin 16384) :
    (V m c main_v2 : FVec Ideal S16384x1 .f32) (ix2 n 0) = ∑ k : Fin 256, feats m c (ix2 n k) * feats m c (ix2 n k) := by
  unfold_abbrev_sides
  after_reads_at

/-- The array of the centres' squared norms, at an index. -/
theorem cnorms_at (c : Dev nD) (j : Fin 8192) :
    (V m c main_v5 : FVec Ideal S1x8192 .f32) (ix2 0 j) = ∑ k : Fin 256, cents m c (ix2 j k) * cents m c (ix2 j k) := by
  unfold_abbrev_sides
  after_reads_at

theorem block_dist (c : Dev nD) (t : Fin cfg0.N) (i : Fin 512) (j : Fin 8192) (n : Fin 16384) (hn : n.val = t.val * 512 + i.val) :
    k0_pay2 (F := Ideal) (iblk m c 0 t) (iblk m c 1 t) (iblk m c 2 t) (iblk m c 3 t) (ix2 i j) = dist (feats m c) (cents m c) n j := by
  have r0 : ∀ k : Fin 256, (iblk m c 0 t : FVec Ideal S512x256 .f32) (ix2 i k) = feats m c (ix2 n k) := fun k => by
    unfold feats
    blk_ext [iblk, V_main_arg0, index_maps t]
  have r1 : ∀ k : Fin 256, (iblk m c 1 t : FVec Ideal S8192x256 .f32) (ix2 j k) = cents m c (ix2 j k) := fun k => by
    unfold cents
    blk_ext [iblk, V_main_arg1, index_maps t]
  have r2 : (iblk m c 2 t : FVec Ideal S512x1 .f32) (ix2 i 0) = (V m c main_v2 : FVec Ideal S16384x1 .f32) (ix2 n 0) := by
    blk_simp [iblk, index_maps t]
    refine congrArg (V m c main_v2) ?_
    blk_ext [index_maps t]
  have r3 : (iblk m c 3 t : FVec Ideal S1x8192 .f32) (ix2 0 j) = (V m c main_v5 : FVec Ideal S1x8192 .f32) (ix2 0 j) := by
    blk_ext [iblk, index_maps t]
  unfold dist sq
  pointwise [k0_pay2, ofBits_two]
  rw [r2, r3, norms_at, cnorms_at]
  simp only [r0, r1]

/-- The result buffer is the blocks' array reshaped. -/
theorem tail (c : Dev nD) : Pipeline.afterTail₀ cfgs (dats m) 0 (V0 m) [hostOps1] c main_v7
    = shapeCast S16384 ((dats m 0 c).arrAt 4 (cfgs 0).N : IVec S32x1x512 32) shapeCasts_S32x1x512_S16384 := by
  unfold Pipeline.afterTail₀
  simp only [List.flatten_cons, List.flatten_nil, List.append_nil, hostOps1]
  after_results
  show shapeCast S16384 (Pipeline.withArrays (cfgs 0).spec c (V0 m c) (fun w => (dats m 0 c).arrAt w (cfgs 0).N)
    (Proc.devRef .tc (Pipeline.arrRef (cfgs 0).spec 4))) shapeCasts_S32x1x512_S16384 = _
  rw [Pipeline.withArrays_arr (cfgs 0).spec (by decide)]

/-- What entry `i` of the blocks' array has to be: the index of the best pair of its row. -/
def Nearest (c : Dev nD) (i : S32x1x512.Idx) (w : BitVec 32) : Prop :=
  ∀ n : Fin 16384, n.val = (i 0).val * 512 + (i 2).val →
    ∃ v, Best (seen (fun j => root (dist (feats m c) (cents m c) n j)) 8192) (v, w)

/-- Each entry of the blocks' array is that index, the centres being finite. -/
theorem blocks (c : Dev nD) (hc : ∀ j k, cents m c (ix2 j k) ≠ ⊤ ∧ cents m c (ix2 j k) ≠ ⊥) (i : S32x1x512.Idx) :
    Nearest m c i (((dats m 0 c).arrAt 4 (cfgs 0).N : IVec S32x1x512 32) i) := by
  refine (dats m 0 c).arrAt_forall_of_covers 4 (Nearest m c) (by decide +kernel) (fun t hf y => ?_) i
  blk_simp
  rw [after0_4]
  intro n hn
  obtain ⟨y0, y1, l, rfl⟩ : ∃ (a : Fin 1) (b : Fin 1) (l : Fin 512), y = ix3 a b l := ⟨y 0, y 1, y 2, eq_ix3 y⟩
  obtain rfl : y0 = 0 := Subsingleton.elim _ _
  obtain rfl : y1 = 0 := Subsingleton.elim _ _
  refine block_best _ _ _ _ l (dist (feats m c) (cents m c) n) (fun j => block_dist m c t l j n ?_) fun j j' h =>
    root_lt_root _ _ _ (fun k => hc j k) (fun k => hc j' k) h
  blk_simp [index_maps t] at hn
  have h0 : ((0 : Fin 1) : ℕ) = 0 := rfl
  omega

/-- The reshape at an index. -/
theorem reshaped (A : IVec S32x1x512 32) (n : Fin 16384) : shapeCast S16384 A shapeCasts_S32x1x512_S16384 (ix1 n)
    = A (ix3 ⟨n.val / 512, by have := n.isLt; omega⟩ 0 ⟨n.val % 512, by omega⟩) := by
  pointwise

/-- Entry `n` of the result is that index. -/
theorem result (c : Dev nD) (hc : ∀ j k, cents m c (ix2 j k) ≠ ⊤ ∧ cents m c (ix2 j k) ≠ ⊥) (n : Fin 16384) :
    ∃ v, Best (seen (fun j => root (dist (feats m c) (cents m c) n j)) 8192)
      (v, (Pipeline.afterTail₀ cfgs (dats m) 0 (V0 m) [hostOps1] c main_v7 : IVec S16384 32) (ix1 n)) := by
  rw [tail, reshaped]
  exact blocks m c hc _ n (Nat.div_add_mod' n.val 512).symm

end Cert.Nearest

end
-- ==== Proof.Reference.lean ====
/-
  What the reference computes: entry `n` of its result is the index word of the best pair of the roots of the squared
  distances from feature row `n` to the centres.
-/
module

public import proofs.«01_k».proof.Proof.Gen.ReferenceIdeal
public import proofs.«01_k».proof.Proof.ArgMin
public import proofs.«01_k».proof.Proof.Distance
public import Idealize.ShloMosaic.Lib.Pointwise

@[expose] public section

set_option maxRecDepth 16384

noncomputable section

namespace Cert.Nearest.Reference

open Idealize.ShloMosaic Idealize.ShloMosaic.TcCoe
open Cert.ReferenceIdeal Cert.ReferenceIdeal.Gen

/-- The reference's arg-min body on two pairs, as a choice on the two comparisons it makes. -/
theorem body_eq (a b : Pair) : reducer_argmin_f32_i32 (F := Ideal) a b
    = (if a.1 < b.1 then a.1 else b.1, if a.1 < b.1 ∨ (a.1 = b.1 ∧ a.2.toInt < b.2.toInt) then a.2 else b.2) := by
  pointwise [reducer_argmin_f32_i32]
  by_cases h1 : a.1 < b.1 <;> by_cases h2 : a.1 = b.1 <;> by_cases h3 : a.2.toInt < b.2.toInt <;>
    simp [h1, h2, h3, Scalar.select, IntOp.ori, IntOp.andi, IntOp.cmpi, BitVec.slt]

/-- The arg-min body returns its first pair when that one comes before the other. -/
theorem body_left (a b : Pair) (h : Before a b) : reducer_argmin_f32_i32 (F := Ideal) a b = a := by
  rw [body_eq]
  rcases h with h | ⟨h, h'⟩
  · rw [if_pos h, if_pos (Or.inl h)]
  · refine Prod.ext ?_ ?_
    · change (if a.1 < b.1 then a.1 else b.1) = a.1
      rw [h, ite_self]
    · change (if _ then a.2 else b.2) = a.2
      rcases lt_or_eq_of_le h' with h'' | h''
      · rw [if_pos (Or.inr ⟨h, h''⟩)]
      · rw [BitVec.eq_of_toInt_eq h'', ite_self]

/-- The arg-min body returns its second pair when the first does not come before it. -/
theorem body_right (a b : Pair) (h : ¬ Before a b) : reducer_argmin_f32_i32 (F := Ideal) a b = b := by
  rw [body_eq, if_neg fun h1 => h (Or.inl h1), if_neg]
  rintro (h1 | ⟨h1, h2⟩)
  · exact h (Or.inl h1)
  · exact h (Or.inr ⟨h1, h2.le⟩)

/-- The fold over one row finds the best pair of the row. -/
theorem argmin_best (g : FVec Ideal S16384x8192 .f32) (n : Fin 16384) :
    Best (seen (fun k : Fin 8192 => g (ix2 n k)) 8192)
      (Host.argReduce (F := Ideal) reducer_argmin_f32_i32 g (iotaInDim S16384x8192 32 1) (constant (F := Ideal) S_ .f32 0x7F800000#32)
        (constantI S_ 32 0#32) reducesTo_S16384x8192_S16384_d1 h_S_ (ix1 n)) := by
  rw [Ideal.argReduce_eq_reduce2, Host.reduce2_eq_foldl_fiber]
  have hb := best_foldl _ body_left body_right
    (Host.argReduceFiber g (iotaInDim S16384x8192 32 1) reducesTo_S16384x8192_S16384_d1 (ix1 n)) (⊤, 0#32)
  have hS : {p : Pair | p = (⊤, 0#32) ∨ p ∈ Host.argReduceFiber g (iotaInDim S16384x8192 32 1) reducesTo_S16384x8192_S16384_d1 (ix1 n)}
      = seen (fun k : Fin 8192 => g (ix2 n k)) 8192 := by
    ext p
    refine or_congr Iff.rfl ?_
    unfold Host.argReduceFiber pairs
    simp only [List.mem_map, List.mem_filter, List.mem_finRange, true_and, decide_eq_true_eq, Set.mem_setOf_eq]
    constructor
    · rintro ⟨i, hi, rfl⟩
      generalize S16384x8192.rowMajor.symm i = q at hi ⊢
      obtain ⟨k, hk⟩ := (Shape.ReducesTo.fiber_r2_a1 _ _ _).1 hi
      refine ⟨k, Nat.zero_le _, k.isLt, ?_⟩
      rw [← hk]
      exact Prod.ext rfl rfl
    · rintro ⟨k, -, -, rfl⟩
      refine ⟨S16384x8192.rowMajor (ix2 n k), ?_, ?_⟩
      · rw [Equiv.symm_apply_apply]
        exact (Shape.ReducesTo.fiber_r2_a1 _ _ _).2 ⟨k, rfl⟩
      · rw [Equiv.symm_apply_apply]
        exact Prod.ext rfl rfl
  rw [hS] at hb
  have key : ∀ q : Pair, q = (⊤, 0#32) → Best (seen (fun k : Fin 8192 => g (ix2 n k)) 8192)
      (List.foldl (reducer_argmin_f32_i32 (F := Ideal)) q
        (Host.argReduceFiber g (iotaInDim S16384x8192 32 1) reducesTo_S16384x8192_S16384_d1 (ix1 n))) := by
    rintro q rfl
    exact hb
  refine key _ (Prod.ext ?_ ?_)
  · exact ofBits_inf
  · rfl

/-- The values the reference takes the arg-min of. -/
abbrev roots (X : FVec Ideal S16384x256 .f32) (C : FVec Ideal S8192x256 .f32) : FVec Ideal S16384x8192 .f32 :=
  Host.sqrt (maximumf (broadcastInDim S16384x8192 ![] bcast_S_S16384x8192 (constant (F := Ideal) S_ .f32 0x00000000#32))
    (subf
      (addf
        (broadcastInDim S16384x8192 ![0, 1] bcast_S16384x1_S16384x8192_0_1
          (broadcastInDim S16384x1 ![0] bcast_S16384_S16384x1_0
            (Host.reduceAdd (mulf X X) (constant (F := Ideal) S_ .f32 0x00000000#32) reducesTo_S16384x256_S16384_d1 h_S_)))
        (broadcastInDim S16384x8192 ![0, 1] bcast_S1x8192_S16384x8192_0_1
          (broadcastInDim S1x8192 ![1] bcast_S8192_S1x8192_1
            (Host.reduceAdd (mulf C C) (constant (F := Ideal) S_ .f32 0x00000000#32) reducesTo_S8192x256_S8192_d1 h_S_))))
      (mulf (broadcastInDim S16384x8192 ![] bcast_S_S16384x8192 (constant (F := Ideal) S_ .f32 0x40000000#32))
        (Host.dotGeneral dot_S16384x256_S256x8192_S16384x8192_1_0_0_1_n_n none X
          (transpose S256x8192 [1, 0] C transposes_S8192x256_S256x8192_1_0)))))

/-- They are the roots of the squared distances. -/
theorem roots_at (X : FVec Ideal S16384x256 .f32) (C : FVec Ideal S8192x256 .f32) (n : Fin 16384) (j : Fin 8192) :
    roots X C (ix2 n j) = root (sq (fun k : Fin 256 => X (ix2 n k)) fun k : Fin 256 => C (ix2 j k)) := by
  unfold root sq
  pointwise [roots, ofBits_two]
  rw [max_comm]

end Cert.Nearest.Reference

end
-- ==== Proof.Finite.lean ====
/-
  What the precondition says: every entry of the centres is a real number, neither of the two infinities.
-/
module

public import proofs.«01_k».proof.Proof.Gen.KernelIdeal
public import proofs.«01_k».proof.Proof.Gen.Pre_centers_finite
public import proofs.«01_k».proof.Proof.Distance
public import Idealize.ShloMosaic.Lib.Pointwise
public import Idealize.ShloMosaic.Lib.ReduceAll

@[expose] public section

set_option maxRecDepth 16384

noncomputable section

namespace Cert.Nearest

open Idealize.ShloMosaic Idealize.ShloMosaic.TcCoe
open Cert.Pre_centers_finite Cert.Pre_centers_finite.Gen

/-- If the precondition's word is one, every entry of the centres is finite. -/
theorem finite_of_pre (X : FVec Ideal S16384x256 .f32) (C : FVec Ideal S8192x256 .f32)
    (h : Cert.Pre_centers_finite.fn (F := Ideal) X C = fun _ => 1#1) (j : Fin 8192) (k : Fin 256) :
    C (ix2 j k) ≠ ⊤ ∧ C (ix2 j k) ≠ ⊥ := by
  have h0 := congrFun h ix0
  unfold Cert.Pre_centers_finite.fn at h0
  have h1 := Host.reduce_andi_all _ _ _ _ _ h0 (ix2 j k)
  pointwise [ofBits_inf] at h1
  have h2 : max (C (ix2 j k)) (-(C (ix2 j k))) < ⊤ := by
    by_contra hn
    have e : decide (FloatOps.absf (F := Ideal) (φ := .f32) (C (ix2 j k)) < (⊤ : EReal)) = false := decide_eq_false hn
    rw [e] at h1
    exact absurd h1 (by decide)
  obtain ⟨h3, h4⟩ := max_lt_iff.1 h2
  refine ⟨h3.ne, fun hb => ?_⟩
  rw [hb] at h4
  exact absurd h4 (by simp)

end Cert.Nearest

end
-- ==== Proof.Equation.lean ====
/-
  The equation: the reference's index words and the words the kernel's program stores are the same, both being the
  index word of the best pair of the same set.
-/
module

public import proofs.«01_k».proof.Proof.Array
public import proofs.«01_k».proof.Proof.Reference
public import proofs.«01_k».proof.Proof.Finite

@[expose] public section

set_option maxRecDepth 16384

noncomputable section

namespace Cert.Nearest

open Idealize.ShloMosaic Idealize.ShloMosaic.TcCoe
open Cert.KernelIdeal Cert.KernelIdeal.Gen

/-- With finite centres, the reference's arg-min over the roots is, at every row, the word the kernel stores. -/
theorem equation (m : (ℓ : Loc nD τ sig) → Buf (Elt Ideal) ℓ) (c : Dev nD)
    (hpre : Cert.Pre_centers_finite.fn (F := Ideal) (feats m c) (cents m c) = fun _ => 1#1) :
    (fun j => (Host.argReduce (F := Ideal) Cert.ReferenceIdeal.reducer_argmin_f32_i32 (Reference.roots (feats m c) (cents m c))
        (iotaInDim Cert.ReferenceIdeal.S16384x8192 32 1) (constant (F := Ideal) Cert.ReferenceIdeal.S_ .f32 0x7F800000#32)
        (constantI Cert.ReferenceIdeal.S_ 32 0#32) Cert.ReferenceIdeal.Gen.reducesTo_S16384x8192_S16384_d1
        Cert.ReferenceIdeal.Gen.h_S_ j).2)
      = (Pipeline.afterTail₀ cfgs (dats m) 0 (V0 m) [hostOps1] c main_v7 : IVec S16384 32) := by
  funext j
  obtain ⟨n, rfl⟩ : ∃ n : Fin 16384, j = ix1 n := ⟨j 0, by blk_ext⟩
  obtain ⟨v, hk⟩ := result m c (finite_of_pre (feats m c) (cents m c) hpre) n
  have hr := Reference.argmin_best (Reference.roots (feats m c) (cents m c)) n
  have e : (fun k : Fin 8192 => Reference.roots (feats m c) (cents m c) (ix2 n k))
      = fun k => root (dist (feats m c) (cents m c) n k) :=
    funext fun k => Reference.roots_at (feats m c) (cents m c) n k
  rw [e] at hr
  exact congrArg Prod.snd (hr.unique hk)

end Cert.Nearest

end
-- ==== Proof.lean ====
/-
  The certificate: the five claims, the equation of the two programs' results resting on the modules of `Proof`.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_centers_finite
public import proofs.«01_k».proof.Proof.Equation
public import Idealize.ShloMosaic.Lib.Claim
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.SL.Sem

/-- The kernel's program as compiled runs to its end, keeps its arguments and leaves no semaphore raised. -/
theorem frame_kernel : Cert.quiescent_Kernel := fun m ρ _ => Cert.Kernel.Gen.frame m ρ

/-- The same of the kernel's program over the extended reals. -/
theorem frame_ideal : Cert.quiescent_KernelIdeal := fun m ρ _ => Cert.KernelIdeal.Gen.frame m ρ

/-- The same again, from launches whose centres are finite. -/
theorem frame_ideal_pre : Cert.quiescent_KernelIdeal_pre_centers_finite := fun m ρ _ => Cert.KernelIdeal.Gen.frame m ρ

/-- The reference's program over the extended reals runs to its end, keeps its arguments and has no semaphore. -/
theorem frame_ref : Cert.quiescent_ReferenceIdeal := by
  intro m g _
  hlo_run
  · exact fun _ => ⟨trivial, trivial⟩
  · exact sem_eq_zero_of_no_sems (sig := Cert.ReferenceIdeal.sig) (by decide) _

/-- The same again, from launches whose centres are finite. -/
theorem frame_ref_pre : Cert.quiescent_ReferenceIdeal_pre_centers_finite := fun m g _ => frame_ref m g trivial

/-- From equal arguments with finite centres, the kernel's program and the reference end with the same index words. -/
theorem algebraic : Cert.algebraic_KernelIdeal_ReferenceIdeal_pre_centers_finite := by
  pair_intro
  · run_from Cert.KernelIdeal.Gen.run_main m g
  · hlo_run
    exact Cert.Nearest.equation m c (hpre c)

/-- The certificate: every claim of the test. -/
theorem claim : Cert.Claim :=
  ⟨inferInstance, inferInstance, inferInstance, inferInstance, frame_kernel, frame_ideal, frame_ideal_pre, frame_ref,
    frame_ref_pre, trivial, algebraic⟩

end Cert.Proof

end
